-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x5120 : Shape := ⟨3, ![6, 1024, 5120]⟩
abbrev S6912x5120 : Shape := ⟨2, ![6912, 5120]⟩
abbrev S6912 : Shape := ⟨1, ![6912]⟩
abbrev S6144x5120 : Shape := ⟨2, ![6144, 5120]⟩
abbrev S6144x6912 : Shape := ⟨2, ![6144, 6912]⟩
abbrev S1024x5120 : Shape := ⟨2, ![1024, 5120]⟩
abbrev S2304x5120 : Shape := ⟨2, ![2304, 5120]⟩
abbrev S1024x2304 : Shape := ⟨2, ![1024, 2304]⟩
abbrev S2304 : Shape := ⟨1, ![2304]⟩
abbrev S1x2304 : Shape := ⟨2, ![1, 2304]⟩
abbrev S6x1024x6912 : Shape := ⟨3, ![6, 1024, 6912]⟩

abbrev nBuf : Space → Nat
  | .hbm => 6
  | .vmem => 7
  | .smem => 0
  | _ => 0

abbrev bufTy : (tb : Table) → Fin (tcTables nBuf tb) → BufTy
  | .hbm, ⟨0, _⟩ => ⟨S6x1024x5120, .bf16⟩
  | .hbm, ⟨1, _⟩ => ⟨S6912x5120, .fp8e4m3⟩
  | .hbm, ⟨2, _⟩ => ⟨S6912, .f32⟩
  | .hbm, ⟨3, _⟩ => ⟨S6144x5120, .bf16⟩
  | .hbm, ⟨4, _⟩ => ⟨S6144x6912, .bf16⟩
  | .hbm, ⟨5, _⟩ => ⟨S6x1024x6912, .bf16⟩
  | .local _ .vmem, ⟨0, _⟩ => ⟨S1024x5120, .bf16⟩
  | .local _ .vmem, ⟨1, _⟩ => ⟨S1024x5120, .bf16⟩
  | .local _ .vmem, ⟨2, _⟩ => ⟨S2304x5120, .fp8e4m3⟩
  | .local _ .vmem, ⟨3, _⟩ => ⟨S2304x5120, .fp8e4m3⟩
  | .local _ .vmem, ⟨4, _⟩ => ⟨S6912, .f32⟩
  | .local _ .vmem, ⟨5, _⟩ => ⟨S1024x2304, .bf16⟩
  | .local _ .vmem, ⟨6, _⟩ => ⟨S1024x2304, .bf16⟩
  | _, _ => ⟨S6x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 6], ![false, false]⟩

def k0_off1 (i : grid0.Coords) : Fin 1 → Nat :=
  let arg0 : BitVec 32 := BitVec.ofNat 32 (i 0).val
  let c2304_i32 : BitVec 32 := 2304#32
  let v4 : BitVec 32 := Scalar.muli arg0 c2304_i32
  let v5 : Index := Scalar.indexCast v4
  ![v5.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2304x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S6x1024x5120 : Shape := ⟨3, ![6, 1024, 5120]⟩
abbrev S6912x5120 : Shape := ⟨2, ![6912, 5120]⟩
abbrev S6912 : Shape := ⟨1, ![6912]⟩
abbrev S6x1024x6912 : Shape := ⟨3, ![6, 1024, 6912]⟩
abbrev S1x1x6912 : Shape := ⟨3, ![1, 1, 6912]⟩

abbrev nBuf : Space → Nat
  | .hbm => 4
  | .vmem => 4
  | .smem => 0
  | _ => 0

abbrev bufTy : (tb : Table) → Fin (tcTables nBuf tb) → BufTy
  | .hbm, ⟨0, _⟩ => ⟨S6x1024x5120, .bf16⟩
  | .hbm, ⟨1, _⟩ => ⟨S6912x5120, .fp8e4m3⟩
  | .hbm, ⟨2, _⟩ => ⟨S6912, .f32⟩
  | .hbm, ⟨3, _⟩ => ⟨S6x1024x6912, .bf16⟩
  | .local _ .vmem, ⟨0, _⟩ => ⟨S6x1024x5120, .bf16⟩
  | .local _ .vmem, ⟨1, _⟩ => ⟨S6912x5120, .fp8e4m3⟩
  | .local _ .vmem, ⟨2, _⟩ => ⟨S6912, .f32⟩
  | .local _ .vmem, ⟨3, _⟩ => ⟨S6x1024x6912, .bf16⟩
  | _, _ => ⟨S6x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6x1024x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6912x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1024x6912 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Value.lean ====
/- What the tiled kernel's pallas_call leaves in its result array, over the extended reals: the reference's array, laid out as
   6144 rows of 6912 columns. -/
module

public import proofs.«01_k».proof.Proof.Gen.KernelIdeal.Frame
public import proofs.«01_k».proof.Proof.Gen.ReferenceIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Linear

open Cert.KernelIdeal Cert.KernelIdeal.Gen

variable (m : (ℓ : Loc nD τ sig) → Buf (Elt Ideal) ℓ)

/-- The reference's array as a function of the activations, the fp8 codes and the scales. -/
abbrev REF (X : FVec Ideal S6x1024x5120 .bf16) (W : FVec Ideal S6912x5120 .fp8e4m3) (S : FVec Ideal S6912 .f32) :
    FVec Ideal S6x1024x6912 .bf16 :=
  Cert.ReferenceIdeal.Gen.k0_pay1 (F := Ideal) W X S

/-- The windows' block indices at every grid point, and the offset at which the body reads the scales. -/
theorem idx : ∀ t : Fin cfg0.N, win0_0.index t = ![t.val % 6, 0] ∧ win0_1.index t = ![t.val / 6, 0] ∧ win0_2.index t = ![0]
    ∧ win0_3.index t = ![t.val % 6, t.val / 6] ∧ k0_off1 (grid0.coords t) = ![t.val / 6 * 2304] ∧ t.val / 6 < 3 :=
  (by decide +kernel : ∀ t : Fin grid0.N, _)

/-- The pallas_call's first operand is the activations, laid out as 6144 rows. -/
theorem V_main_v0 (c : Dev nD) : V m c main_v0
    = shapeCast S6144x5120 (m ((c : Thread nD τ).loc main_arg0)) shapeCasts_S6x1024x5120_S6144x5120 := by
  change StableHlo.after hostOps0 (fun b => m (c, b)) (Proc.devRef .tc main_v0) = _
  unfold hostOps0
  after_results
  rfl

/-- Row `1024 * b + s` of the 6144 rows is row `s` of batch entry `b`. -/
theorem rows_at (X : FVec Ideal S6x1024x5120 .bf16) (i : S6144x5120.Idx) (b : Fin 6) (s : Fin 1024) (k : Fin 5120)
    (h0 : (i 0).val = b.val * 1024 + s.val) (h1 : (i 1).val = k.val) :
    shapeCast S6144x5120 X shapeCasts_S6x1024x5120_S6144x5120 i = X (ix3 b s k) := by
  pointwise
  blk_ext

/-- The activations' block at point `t` starts at row `1024 * (t % 6)` of the 6144 rows: batch entry `t % 6`, whole. -/
theorem iblk0_at (c : Dev nD) (t : Fin cfg0.N) (a : Fin 1024) (k : Fin 5120) (b : Fin 6) (s : Fin 1024)
    (hb : b.val = t.val % 6) (hs : s.val = a.val) :
    iblk m c 0 t (ix2 a k) = m ((c : Thread nD τ).loc main_arg0) (ix3 b s k) := by
  unfold iblk
  refine (congrFun (V_main_v0 m c) _).trans (rows_at _ _ b s k ?_ ?_)
  all_goals (blk_simp [idx t] <;> try omega)

/-- The codes' block at point `t` starts at row `2304 * (t / 6)`. -/
theorem iblk1_at (c : Dev nD) (t : Fin cfg0.N) (a : Fin 2304) (k : Fin 5120) (o : Fin 6912) (ho : o.val = t.val / 6 * 2304 + a.val) :
    iblk m c 1 t (ix2 a k) = m ((c : Thread nD τ).loc main_arg1) (ix2 o k) := by
  blk_ext [iblk, V, idx t]

/-- The scales are staged whole. -/
theorem iblk2_at (c : Dev nD) (t : Fin cfg0.N) (a o : Fin 6912) (ho : o.val = a.val) :
    iblk m c 2 t (ix1 a) = m ((c : Thread nD τ).loc main_arg2) (ix1 o) := by
  blk_ext [iblk, V, idx t]

/-- One block: what the body stores at index `y` of its block is the reference's array at the index `j` where `y` sits. -/
theorem core (c : Dev nD) (t : Fin cfg0.N) (y : S1024x2304.Idx) (j : S6144x6912.Idx) (h0 : (j 0).val = t.val % 6 * 1024 + (y 0).val)
    (h1 : (j 1).val = t.val / 6 * 2304 + (y 1).val) : outsAt0 m c t y
    = shapeCast S6144x6912 (REF (m ((c : Thread nD τ).loc main_arg0)) (m ((c : Thread nD τ).loc main_arg1))
        (m ((c : Thread nD τ).loc main_arg2))) shapeCasts_S6144x6912_S6x1024x6912.symm j := by
  have hoff : k0_off1 (grid0.coords t) 0 = t.val / 6 * 2304 := by rw [(idx t).2.2.2.2.1]; rfl
  have hy : (y 0).val < 1024 := (y 0).isLt
  unfold outsAt0
  frame_out
  pointwise [k0_pay1, Cert.ReferenceIdeal.Gen.k0_pay1, REF]
  refine congrArg₂ (· * ·) (Finset.sum_congr rfl fun k _ => congrArg₂ (· * ·) ?_ ?_) ?_
  · exact iblk0_at m c t _ k _ _ (show (j 0).val / 1024 = _ by rw [h0]; omega) (show (j 0).val % 1024 = _ by rw [h0]; omega)
  · exact iblk1_at m c t _ k _ h1
  · exact iblk2_at m c t _ _ (show (j 1).val = k0_off1 (grid0.coords t) 0 + (y 1).val by rw [h1, hoff])

/-- The same, with the place of index `y` written as the output window's own embedding. -/
theorem point (c : Dev nD) (t : Fin cfg0.N) (y : S1024x2304.Idx) : outsAt0 m c t y
    = shapeCast S6144x6912 (REF (m ((c : Thread nD τ).loc main_arg0)) (m ((c : Thread nD τ).loc main_arg1))
        (m ((c : Thread nD τ).loc main_arg2))) shapeCasts_S6144x6912_S6x1024x6912.symm (((cfg0.win 3).blk t).view.emb y) := by
  refine core m c t y _ ?_ ?_
  all_goals (blk_simp [idx t] <;> try omega)

/-- The array that the pallas_call returns: the reference's, as 6144 rows. -/
theorem final (c : Dev nD) : (dats m 0 c).arrAt 3 (cfgs 0).N
    = shapeCast S6144x6912 (REF (m ((c : Thread nD τ).loc main_arg0)) (m ((c : Thread nD τ).loc main_arg1))
        (m ((c : Thread nD τ).loc main_arg2))) shapeCasts_S6144x6912_S6x1024x6912.symm := by
  refine (dats m 0 c).arrAt_eq_of_covers 3 _ (by decide +kernel) fun t _ y => ?_
  blk_simp
  rw [after0_3]
  exact point m c t y

/-- The host reshape after the pallas_call: the result of the program is the reference's array. -/
theorem result (c : Dev nD) : Pipeline.afterTail₀ cfgs (dats m) 0 (V0 m) [hostOps1] c main_v2
    = REF (m ((c : Thread nD τ).loc main_arg0)) (m ((c : Thread nD τ).loc main_arg1)) (m ((c : Thread nD τ).loc main_arg2)) := by
  have hA := (Pipeline.withArrays_arr spec0 launch0.win.arr_inj c (V0 m c) (fun w => (dats m 0 c).arrAt w (cfgs 0).N) 3).trans (final m c)
  unfold Pipeline.afterTail₀
  change StableHlo.after hostOps1 _ (Proc.devRef .tc main_v2) = _
  unfold hostOps1
  after_results
  exact (congrArg (fun A => shapeCast S6x1024x6912 A shapeCasts_S6144x6912_S6x1024x6912) hA).trans (shapeCast_shapeCast _ _ _)

/-- The kernel's run: its result is the reference's array of its arguments, and the arguments end as they were. -/
theorem run (g : Dev nD → PrngReg) : θ_run defs (onTc (τ := τ) (main (F := Ideal))) ⟨m, fun _ => 0, g⟩ fun r => ∀ c : Dev nD,
      r.2.mem ((c : Thread nD τ).loc main_v2) = REF (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono
    (fun r h c => ⟨((h.1 c).2 main_v2 (Pipeline.mem_restRefs_of main_v2 (by decide) (by decide))).trans (result m c), h.2 c⟩)
    (θ_run_and (run_main m g) (unchanged m g))

end Cert.KernelIdeal.Linear

end
-- ==== Proof.lean ====
/- The claims of this certificate: kernel, ideal kernel and reference run and leave their arguments as they were (generated
   frames), the ideal kernel is the kernel's own text, and ideal kernel and reference compute the same array (Proof/Value.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value
public import Idealize.ShloMosaic.Adequacy
public import Idealize.ShloMosaic.Init

@[expose] public section

noncomputable section

namespace Cert.Proof

open Idealize.ShloMosaic Idealize.SL.Sem Cert.Kernel

/-- Kernel and reference compute the same function over the extended reals: the kernel's run ends with the reference's array of
    the arguments, and so does the reference's, from arguments that agree. -/
theorem algebraic : Cert.algebraic_KernelIdeal_ReferenceIdeal (hKernelIdeal := Cert.KernelIdeal.Gen.facts)
    (hReferenceIdeal := Cert.ReferenceIdeal.Gen.facts) := fun m g m' g' _ hagree =>
  ⟨_, Cert.KernelIdeal.Linear.run m g, θ_run_mono (Cert.ReferenceIdeal.Value.run m' g') fun r h c => ⟨(h c).1.trans (by
    obtain ⟨h0, h1, h2⟩ := hagree c
    exact Eq.trans (congrArg (fun X => Cert.ReferenceIdeal.Gen.k0_pay1 (F := Ideal) _ X _) h0)
      (congrArg₂ (fun W S => Cert.ReferenceIdeal.Gen.k0_pay1 (F := Ideal) W _ S) h1 h2)), (h c).2⟩⟩

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
